-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Probe (m : (ℓ : Loc Cert.Probe.nD Cert.Probe.τ Cert.Probe.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Probe [hProbe : Cert.Probe.Facts] : Prop :=
  ∀ (m : (ℓ : Loc Cert.Probe.nD Cert.Probe.τ Cert.Probe.sig) → Buf (Elt Bits) ℓ) (g : Dev Cert.Probe.nD → PrngReg), Pre_Probe m →
    θ_run (Cert.Probe.defs (F := Bits)) (Cert.Probe.threads (F := Bits)) ⟨m, fun _ => 0, g⟩ (fun r => (∀ c : Dev Cert.Probe.nD,
      r.2.mem ((c.tc : Thread Cert.Probe.nD Cert.Probe.τ).loc Cert.Probe.main_arg0) = m ((c.tc : Thread Cert.Probe.nD Cert.Probe.τ).loc Cert.Probe.main_arg0)
      ∧ r.2.mem ((c.tc : Thread Cert.Probe.nD Cert.Probe.τ).loc Cert.Probe.main_arg1) = m ((c.tc : Thread Cert.Probe.nD Cert.Probe.τ).loc Cert.Probe.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hProbe : Cert.Probe.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Probe (hProbe := hProbe)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192x1024 : Shape := ⟨3, ![4, 8192, 1024]⟩
abbrev S8192x1024 : Shape := ⟨2, ![8192, 1024]⟩
abbrev S1024x1024 : Shape := ⟨2, ![1024, 1024]⟩
abbrev S16x1024 : Shape := ⟨2, ![16, 1024]⟩
abbrev S_ : Shape := ⟨0, ![]⟩
abbrev S2048x1024 : Shape := ⟨2, ![2048, 1024]⟩

abbrev nBuf : Table → Nat
  | .hbm => 7
  | .local .tc .vmem => 4
  | .local .scVector .vmem => 2
  | _ => 0

abbrev bufTy : (tb : Table) → Fin (nBuf tb) → BufTy
  | .hbm, ⟨0, _⟩ => ⟨S4x8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S_, .i32⟩
  | .hbm, ⟨5, _⟩ => ⟨S_, .i32⟩
  | .hbm, ⟨6, _⟩ => ⟨S8192x1024, .f32⟩
  | .local .tc .vmem, ⟨0, _⟩ => ⟨S2048x1024, .f32⟩
  | .local .tc .vmem, ⟨1, _⟩ => ⟨S2048x1024, .f32⟩
  | .local .tc .vmem, ⟨2, _⟩ => ⟨S2048x1024, .f32⟩
  | .local .tc .vmem, ⟨3, _⟩ => ⟨S2048x1024, .f32⟩
  | .local .scVector .vmem, ⟨0, _⟩ => ⟨S16x1024, .f32⟩
  | .local .scVector .vmem, ⟨1, _⟩ => ⟨S16x1024, .f32⟩
  | _, _ => ⟨S4x8192x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_v2 : Ref sig .tc := ⟨.hbm, 6, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem0_1 : DmaSem sig := 5
abbrev cc1_sem1_0 : DmaSem sig := 6
abbrev cc1_sem1_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi v2 c0_i32
  let c0_i32_0 : BitVec 32 := 0#32
  ![v3.toNat, 0]
def k0_off2 (i : grid0.Coords) (c0_i32_6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v11 : BitVec 32 := Scalar.addi v2 c0_i32_6
  let c0_i32_7 : BitVec 32 := 0#32
  ![v11.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Probe.lean ====
abbrev S4x8192x1024 : Shape := ⟨3, ![4, 8192, 1024]⟩
abbrev S8192x1024 : Shape := ⟨2, ![8192, 1024]⟩

abbrev nBuf : Table → Nat
  | .hbm => 3
  | _ => 0

abbrev bufTy : (tb : Table) → Fin (nBuf tb) → BufTy
  | .hbm, ⟨0, _⟩ => ⟨S4x8192x1024, .f32⟩
  | .hbm, ⟨1, _⟩ => ⟨S8192x1024, .f32⟩
  | .hbm, ⟨2, _⟩ => ⟨S8192x1024, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 0 → Bool
  | ⟨_, h⟩ => absurd h (Nat.not_lt_zero _)

abbrev sig : RefSig :=
  ofTables nBuf rfl bufTy 4 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_v0_scs : Ref sig .scScalar := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Proof.Setup.lean ====
/-
  The table copy as the launch theorem sees it: the configuration, the ghost state, the sixteen-row pieces in which
  the SparseCore call writes its output, and what the handshakes of that call carry.

  The embedding table is read by all thirty-two vector subcores, so it goes out as read shares. The call's output is
  dealt in pieces of sixteen rows, two to a subcore.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The launch -/

/-- The labels of the pipelines' program. -/
abbrev ΛP [FloatOps F] : Labels := Pipeline.Sig Λ₀ (Fin 1) fun p => (pcfgs (F := F) p).Adm
/-- The SparseCore configuration. -/
abbrev K [FloatOps F] : SparseCore.Cfg τ sig (ΛP (F := F)) 1 := sc (F := F)
/-- The definitions below the SparseCore layer. -/
abbrev D [FloatOps F] : Defs nD τ sig (Elt F) (ΛP (F := F)) := Pipeline.defs pcfgs defs₀
/-- No loop of the program's own needs a variant. -/
abbrev 𝒱₀ : Variants := Variants.none
/-- The variants with the pipelines' own. -/
abbrev 𝒱 : Variants := 𝒱₀.lift
/-- The variant at which the SparseCore bodies run. -/
abbrev v₀ : 𝒱.V := Sum.inl none

/-- The call runs on sixteen subcores of each SparseCore. -/
theorem nSub_zero [FloatOps F] : (K (F := F)).nSub 0 = 16 := rfl
/-- The call runs on two SparseCores. -/
theorem nCore_zero [FloatOps F] : (K (F := F)).nCore 0 = 2 := rfl

/-- The handshake semaphores are distinct and none is scoped. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

/-- The handshakes' rounds. -/
abbrev UH : Type := URounds (GSem nD τ sig) ℕ
/-- The pipeline's rounds. -/
abbrev UP : Type := URounds (GSem nD τ sig) Unit
/-- All three side by side. -/
abbrev UU : Type := UH × (UP × Counters)

local notation "𝕄" => MT nD τ sig (HIx 1) (Elt F) ℕ UU ℕ

/-- Where the handshakes' rounds sit. -/
abbrev EH : Emb UH (MT nD τ sig (HIx 1) (Elt F) ℕ UU ℕ) := embL
/-- Where the pipeline's rounds sit. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The arrays -/

variable (m : (ℓ : Loc nD τ sig) → Buf (Elt F) ℓ)

/-- The array whose length is the number of rows asked for. -/
abbrev xLoc (d : Dev nD) : Loc nD τ sig := (SparseCore.T d).loc main_arg0
/-- The embedding table. -/
abbrev aLoc (d : Dev nD) : Loc nD τ sig := (SparseCore.T d).loc main_arg1
/-- What the SparseCore call writes: the table's first 1024 rows. -/
abbrev oLoc (d : Dev nD) : Loc nD τ sig := (SparseCore.T d).loc main_v0

local notation "aV" => (Memref.whole Cert.KernelIdeal.main_arg1_scv : Memref Cert.KernelIdeal.sig Kind.scVector Space.hbm Cert.KernelIdeal.S8192x1024 EltTy.f32)
local notation "oV" => (Memref.whole Cert.KernelIdeal.main_v0_scv : Memref Cert.KernelIdeal.sig Kind.scVector Space.hbm Cert.KernelIdeal.S1024x1024 EltTy.f32)

/-- A position of the small array, in the table. -/
def up (i : S1024x1024.Idx) : S8192x1024.Idx := fun a => ⟨(i a).val, (i a).isLt.trans_le ((show ∀ a : Fin 2, S1024x1024.size a ≤ S8192x1024.size a by decide) a)⟩

/-- The table's first 1024 rows. -/
def top (d : Dev nD) : Buf (Elt F) (oLoc d) := fun i => m (aLoc d) (up i)

/-! ## The pieces of sixteen rows -/

/-- The coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The sixteen rows of the table that a subcore fetches `r`-th. -/
abbrev aPiece (L : grid0.Coords) (r : Fin 2) : Memref sig .scVector .hbm S16x1024 .f32 :=
  (aV).slice (Rect.unit (s := S8192x1024) (k0_off1 L (BitVec.ofNat 32 (16 * r.val))) S16x1024.size (k0_off1_inb L r)) (fun _ => rfl)
/-- The sixteen rows of the output that a subcore writes `r`-th. -/
abbrev oPiece (L : grid0.Coords) (r : Fin 2) : Memref sig .scVector .hbm S16x1024 .f32 :=
  (oV).slice (Rect.unit (s := S1024x1024) (k0_off2 L (BitVec.ofNat 32 (16 * r.val))) S16x1024.size (k0_off2_inb L r)) (fun _ => rfl)

/-- The positions of that piece of the output. -/
abbrev oSet (L : grid0.Coords) (r : Fin 2) : Finset S1024x1024.Idx := (oPiece L r).view.set

/-- A position lies in a piece exactly when its row does. -/
theorem mem_oSet (L : grid0.Coords) (r : Fin 2) (i : S1024x1024.Idx) :
    i ∈ oSet L r ↔ 64 * (L 1).val + 32 * (L 0).val + 16 * r.val ≤ (i 0).val ∧ (i 0).val < 64 * (L 1).val + 32 * (L 0).val + 16 * r.val + 16 := by
  have e : oSet L r = (Rect.unit (s := S1024x1024) (k0_off2 L (BitVec.ofNat 32 (16 * r.val))) S16x1024.size (k0_off2_inb L r)).set :=
    View.set_slice_whole _ _
  rw [e, Rect.mem_set_unit]
  simp only [k0_off2_eq]
  constructor
  · intro h; exact h 0
  · intro h a
    match a with
    | 0 => exact h
    | 1 => exact ⟨Nat.zero_le _, by have := (i 1).isLt; simpa using this⟩

/-- The three numbers of a piece: SparseCore, subcore, and first or second. -/
abbrev PIx : Type := Fin 2 × Fin 16 × Fin 2

/-- The positions of a numbered piece. -/
abbrev pSet (k : PIx) : Finset S1024x1024.Idx := oSet (coordsV k.1 k.2.1) k.2.2

/-- Different pieces share no row. -/
theorem pSet_disjoint : ∀ k ∈ (Finset.univ : Finset PIx), ∀ l ∈ (Finset.univ : Finset PIx), k ≠ l → Disjoint (pSet k) (pSet l) := by
  rintro ⟨c, s, r⟩ - ⟨c', s', r'⟩ - h
  refine Finset.disjoint_left.mpr fun i hi hj => h ?_
  rw [mem_oSet] at hi hj
  simp only [coordsV] at hi hj
  have hc := c.isLt; have hc' := c'.isLt; have hr := r.isLt; have hr' := r'.isLt
  have h1 : s.val = s'.val := by omega
  have h2 : c.val = c'.val := by omega
  have h3 : r.val = r'.val := by omega
  exact Prod.ext (Fin.ext h2) (Prod.ext (Fin.ext h1) (Fin.ext h3))

/-- The pieces make up the output. -/
theorem pSet_cover : (Finset.univ : Finset PIx).biUnion pSet = Finset.univ := by
  refine Finset.eq_univ_iff_forall.mpr fun i => Finset.mem_biUnion.mpr ?_
  have hi : (i 0).val < 1024 := (i 0).isLt
  refine ⟨(⟨(i 0).val / 32 % 2, by omega⟩, ⟨(i 0).val / 64, by omega⟩, ⟨(i 0).val / 16 % 2, by omega⟩), Finset.mem_univ _, ?_⟩
  rw [mem_oSet]
  simp only [coordsV]
  omega

/-- The whole output is its pieces. -/
theorem out_pieces (d : Dev nD) (f : Buf (Elt F) (oLoc d)) :
    (oLoc d ↦{fullShare} f : sProp 𝕄) = bigSep Finset.univ fun k : PIx => oLoc d ↦[pSet k]{fullShare} f := by
  rw [← pointsTo_biUnion Finset.univ (ℓ := oLoc d) pSet pSet_disjoint, pSet_cover]; try rfl

/-! ## What the handshakes carry -/

variable [FloatOps F]

/-- SparseCore `c`'s read share of the table. -/
abbrev coreShare (c : Fin 2) : PosShare TreeShare := shareTok fullShare 2 c
/-- The read share of its subcore `s`. -/
abbrev tileShare (c : Fin 2) (s : Fin 16) : PosShare TreeShare := shareTok (coreShare c) 16 s

/-- One subcore's two pieces of the output, at given contents. -/
abbrev oPts (d : Dev nD) (L : grid0.Coords) (f : Buf (Elt F) (oLoc d)) : sProp 𝕄 :=
  iprop((oLoc d ↦[oSet L 0]{fullShare} f) ∗ oLoc d ↦[oSet L 1]{fullShare} f)

/-- What a subcore is given: its share of the table and its two pieces. -/
abbrev tileRes (d : Dev nD) (c : Fin 2) (s : Fin 16) (f : Buf (Elt F) (oLoc d)) : sProp 𝕄 :=
  iprop((aLoc d ↦{tileShare c s} m (aLoc d)) ∗ oPts d (coordsV c s) f)

/-- What a SparseCore is given: its share of the table and its subcores' pieces. -/
abbrev coreRes (d : Dev nD) (c : Fin 2) (f : Buf (Elt F) (oLoc d)) : sProp 𝕄 :=
  iprop((aLoc d ↦{coreShare c} m (aLoc d)) ∗ bigSep Finset.univ fun s : Fin 16 => oPts d (coordsV c s) f)

/-- The call takes read shares of the table and the output, and brings the output back holding the table's first
    rows. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (top m d)
  go := fun q d c i => match q with | 0 => tileRes m d (Fin.cast nCore_zero c) (Fin.cast nSub_zero i) (m (oLoc d))
  td := fun q d c i => match q with | 0 => tileRes m d (Fin.cast nCore_zero c) (Fin.cast nSub_zero i) (top m d)
  x := fun _ _ => iprop(emp)

instance P_storable : (P (F := F) m).IsStorable where
  st q d c := match q with
    | 0 => (inferInstance : BI.Storable (upEmb : UEmb _ 𝕄) (coreRes m d (Fin.cast nCore_zero c) (m (oLoc d))))
  dn q d c := match q with
    | 0 => (inferInstance : BI.Storable (upEmb : UEmb _ 𝕄) (coreRes m d (Fin.cast nCore_zero c) (top m d)))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileRes m d (Fin.cast nCore_zero c) (Fin.cast nSub_zero i) (top m d)))

end Cert.Proof.Copy

end
-- ==== Proof.Tile.lean ====
/-
  One subcore's task: fetch two pieces of sixteen rows of the table into the two scratch buffers, and write each out
  to its piece of the output. The output's piece then holds the table's rows at the same row numbers.
-/
module

public import proofs.«01_k».proof.Proof.Setup

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]
variable (m : (ℓ : Loc nD τ sig) → Buf (Elt F) ℓ)

local notation "𝕄" => MT nD τ sig (HIx 1) (Elt F) ℕ UU ℕ

local notation "aV" => (Memref.whole Cert.KernelIdeal.main_arg1_scv : Memref Cert.KernelIdeal.sig Kind.scVector Space.hbm Cert.KernelIdeal.S8192x1024 EltTy.f32)
local notation "oV" => (Memref.whole Cert.KernelIdeal.main_v0_scv : Memref Cert.KernelIdeal.sig Kind.scVector Space.hbm Cert.KernelIdeal.S1024x1024 EltTy.f32)
local notation "b0V" => (Memref.whole Cert.KernelIdeal.cc0_scratch0 : Memref Cert.KernelIdeal.sig Kind.scVector Space.vmem Cert.KernelIdeal.S16x1024 EltTy.f32)
local notation "b1V" => (Memref.whole Cert.KernelIdeal.cc0_scratch1 : Memref Cert.KernelIdeal.sig Kind.scVector Space.vmem Cert.KernelIdeal.S16x1024 EltTy.f32)

variable (d : Dev nD) (L : grid0.Coords)

/-- The subcore's SparseCore. -/
abbrev cV (L : grid0.Coords) : Fin τ.nSC := (L 0).castLE hcore0
/-- The subcore's number on it. -/
abbrev jV (L : grid0.Coords) : Fin τ.nSub := (L 1).castLE hsub0
/-- The subcore. -/
abbrev thr (d : Dev nD) (L : grid0.Coords) : Thread nD τ := V d (cV L) (jV L)
/-- One of its transfer semaphores. -/
abbrev dcell (d : Dev nD) (L : grid0.Coords) (s : DmaSem sig) : GSem nD τ sig := (thr d L, .dma s)

/-- The four transfer semaphores are among the subcore's own cells. -/
theorem ownSems0_tile :
    (ownSems0 (thr d L) : sProp 𝕄)
      = iprop(semVal (dcell d L cc0_scratch2.sem) 0 ∗ semVal (dcell d L cc0_scratch3.sem) 0 ∗ semVal (dcell d L cc0_scratch4.sem) 0 ∗ semVal (dcell d L cc0_scratch5.sem) 0
          ∗ bigSep (((((ownCells (thr d L)).erase (dcell d L cc0_scratch2.sem)).erase (dcell d L cc0_scratch3.sem)).erase (dcell d L cc0_scratch4.sem)).erase (dcell d L cc0_scratch5.sem))
              fun g => semVal g 0) := by
  have hs : ∀ s : DmaSem sig, (SemLoc.dma s : SemLoc sig).isScoped .scVector = true → dcell d L s ∈ ownCells (thr d L) :=
    fun s h => (mem_ownCells (g := dcell d L s)).mpr ⟨rfl, h⟩
  have hne : ∀ s s' : DmaSem sig, s ≠ s' → dcell d L s ≠ dcell d L s' := fun s s' h e => h (SemLoc.dma.inj (Prod.mk.inj e).2)
  unfold SparseCore.Cfg.ownSems0
  rw [SparseCore.bigSep_erase' (hs cc0_scratch2.sem (by decide)),
    SparseCore.bigSep_erase' (Finset.mem_erase.mpr ⟨hne cc0_scratch3.sem _ (by decide), hs _ (by decide)⟩),
    SparseCore.bigSep_erase' (Finset.mem_erase.mpr ⟨hne cc0_scratch4.sem _ (by decide), Finset.mem_erase.mpr ⟨hne _ _ (by decide), hs _ (by decide)⟩⟩),
    SparseCore.bigSep_erase' (Finset.mem_erase.mpr ⟨hne cc0_scratch5.sem _ (by decide), Finset.mem_erase.mpr ⟨hne _ _ (by decide),
      Finset.mem_erase.mpr ⟨hne _ _ (by decide), hs _ (by decide)⟩⟩⟩)]

/-- The two scratch buffers are among the subcore's own, at some contents. -/
theorem ownBufs_tile :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  have hb : ∀ b : Ref sig .scVector, ((Proc.scVector (cV L) (jV L)).devRef b : DevRef τ sig).owner = .proc (.scVector (cV L) (jV L)) →
      (Proc.scVector (cV L) (jV L)).devRef b ∈ ownRefs (τ := τ) (sig := sig) (.scVector (cV L) (jV L)) :=
    fun _ h => SparseCore.Cfg.mem_ownRefs_of_owner h
  unfold SparseCore.Cfg.ownBufs
  refine (SparseCore.bigSep_erase' (hb cc0_scratch0 rfl)).trans ?_
  rw [SparseCore.bigSep_erase' (Finset.mem_erase.mpr
    ⟨fun e => absurd (Proc.devRef_injective _ e) (show (cc0_scratch1 : Ref sig .scVector) ≠ cc0_scratch0 by decide), hb cc0_scratch1 rfl⟩)]

/-- A read share of the table is what remains after two tokens, and the two tokens, as a subcore addresses the table. -/
theorem share_two (q : PosShare TreeShare) (f : Buf (Elt F) (aLoc d)) :
    (aLoc d ↦{q} f : sProp 𝕄) ⊣⊢ iprop((aLoc d ↦{shareDrop q 2} f) ∗ ((aV).view.loc (thr d L) ↦{shareTok q 2 0} f) ∗ (aV).view.loc (thr d L) ↦{shareTok q 2 1} f) := by
  have h := Transfers.pointsTo_toks (Ix := HIx 1) (Val := Elt F) (Name := ℕ) (U := UU) (Lvl := ℕ) (ℓ := aLoc d) (f := f) (S := Finset.univ) q 2
  rw [BI.bigSep_fin_two] at h
  exact h

/-- A piece of the output as a subcore addresses it. -/
theorem pts_oPiece (r : Fin 2) (f : Buf (Elt F) (oLoc d)) :
    (oLoc d ↦[oSet L r]{fullShare} f : sProp 𝕄) = (oPiece L r).view.loc (thr d L) ↦[(oPiece L r).view.set]{fullShare} f := rfl
/-- The first scratch buffer as a subcore addresses it. -/
theorem pts_b0 (f : Buf (Elt F) ((thr d L).loc cc0_scratch0)) :
    ((thr d L).loc cc0_scratch0 ↦{fullShare} f : sProp 𝕄) = (b0V).view.loc (thr d L) ↦{fullShare} f := rfl
/-- The second scratch buffer as a subcore addresses it. -/
theorem pts_b1 (f : Buf (Elt F) ((thr d L).loc cc0_scratch1)) :
    ((thr d L).loc cc0_scratch1 ↦{fullShare} f : sProp 𝕄) = (b1V).view.loc (thr d L) ↦{fullShare} f := rfl

/-- Position `x` of a piece of the output is, in the table, position `x` of the table's piece of the same number. -/
theorem up_oPiece (r : Fin 2) (x : S16x1024.Idx) : up ((oPiece L r).view.emb x) = (aPiece L r).view.emb x := by
  funext a
  refine Fin.ext ?_
  show ((Rect.unit (s := S1024x1024) (k0_off2 L (BitVec.ofNat 32 (16 * r.val))) S16x1024.size (k0_off2_inb L r)).emb x a).val
    = ((Rect.unit (s := S8192x1024) (k0_off1 L (BitVec.ofNat 32 (16 * r.val))) S16x1024.size (k0_off1_inb L r)).emb x a).val
  simp only [Rect.emb_apply, Rect.off_unit, Rect.stride_unit, k0_off1_eq, k0_off2_eq]

/-- What a view written at all of its positions reads at one of them. -/
theorem read_filled {κ : Kind} {sp : Space} {s : Shape} {e : EltTy} (v : View sig κ sp s e) (f : v.ty.Contents (Elt F)) (w : s.Idx → Elt F e)
    (x : s.Idx) : v.read (Elt F) (v.writes (Elt F) f [⟨Rect.whole s, w⟩]) x = w x :=
  View.read_writes_cons_hit v f (Rect.whole s) w [] x x (funext fun a => Fin.ext (by simp [Rect.emb_apply]))

/-- A piece of the output written with the table's piece of the same number holds the table's first rows. -/
theorem piece_value (r : Fin 2) (f : Buf (Elt F) (oLoc d)) (w : S16x1024.Idx → Elt F .f32)
    (hw : ∀ x, w x = m (aLoc d) ((aPiece L r).view.emb x)) :
    ∀ i ∈ (oPiece L r).view.set, (oPiece L r).view.writes (Elt F) f [⟨Rect.whole S16x1024, w⟩] i = top m d i := by
  intro i hi
  obtain ⟨x, -, rfl⟩ := Finset.mem_map.mp hi
  have e : m (aLoc d) ((aPiece L r).view.emb x) = top m d ((oPiece L r).view.emb x) := by
    unfold top; rw [up_oPiece]
  have hr : ∀ g : Buf (Elt F) (oLoc d), (oPiece L r).view.read (Elt F) g x = g ((oPiece L r).view.emb x) :=
    fun g => (View.read_apply _ _).trans (cast_eq _ _)
  exact (hr _).symm.trans ((read_filled (oPiece L r).view f w x).trans ((hw x).trans e))

set_option maxHeartbeats 4000000 in
/-- The task on subcore `L 1` of SparseCore `L 0`: from its share of the table and its two pieces of the output, at any
    contents, to the same share and the pieces at the table's rows. -/
theorem tile_body (hF : (K (F := F)).Facts) (q : PosShare TreeShare) (f : Buf (Elt F) (oLoc d)) (O : CellTallies nD τ sig (HIx 1)) (W : Waits sig (HIx 1))
    (hO : ∀ g, O g none = 0) :
    iprop(levAts (K (F := F)).L (K (F := F)).lev ∗ emp
        ∗ ((aLoc d ↦{q} m (aLoc d)) ∗ oPts d L f)
        ∗ scopedBufs (thr d L) ∗ scopedSems0 (thr d L) ∗ owes (thr d L) O W)
      ⊢ wp frame (wpE (defs₀ (F := F)) 𝒱₀ (thr d L) none) Set.univ
          (cc0__sc_lookup L aV (Memref.isWhole_whole _) oV (Memref.isWhole_whole _)
            b0V (Memref.isWhole_whole _) b1V (Memref.isWhole_whole _) cc0_scratch2 cc0_scratch3 cc0_scratch4 cc0_scratch5)
          fun _ => iprop(((aLoc d ↦{q} m (aLoc d)) ∗ oPts d L (top m d))
            ∗ scopedBufs (thr d L) ∗ scopedSems0 (thr d L)
            ∗ ∃ W', ⌜∀ p ∈ W', p ∈ W ∨ p.2 = none⌝ ∗ owes (thr d L) O W') := by
  simp only [cc0__sc_lookup_eq_skeleton]; unfold cc0__sc_lookup_skel
  rw [(K (F := F)).scopedBufs_V hF d (cV L) (jV L), SparseCore.Cfg.scopedSems0_V (Val := Elt F) d (cV L) (jV L), ownSems0_tile, ownBufs_tile]
  iintro ⟨#Hlv, -, ⟨Ha, Ho0, Ho1⟩, ⟨⟨%f0, Hb0⟩, ⟨%f1, Hb1⟩, Hbufs⟩, ⟨Hs2, Hs3, Hs4, Hs5, Hsems⟩, HO⟩
  ihave Hmw := (show levAts (K (F := F)).L (K (F := F)).lev ⊢ Transfers.MayWaits (thr d L) (default : HIx 1) O from
    (K (F := F)).mayWaits_none (thr := thr d L) hO) $$ Hlv
  ihave Ha' := (share_two (F := F) d L q (m (aLoc d))).1 $$ Ha
  icases Ha' with ⟨Had, Ha0, Ha1⟩
  ihave Ho0' := (Entails.of_eq (pts_oPiece (F := F) d L 0 f)) $$ Ho0
  ihave Ho1' := (Entails.of_eq (pts_oPiece (F := F) d L 1 f)) $$ Ho1
  ihave Hb0' := (Entails.of_eq (pts_b0 (F := F) d L f0)) $$ Hb0
  ihave Hb1' := (Entails.of_eq (pts_b1 (F := F) d L f1)) $$ Hb1
  sl_exec
  sl_step
  have e0 : ∀ x, tile_body.sl.dma0_2 m d L f0 x = m (aLoc d) ((aPiece L 0).view.emb x) := fun x => by
    show View.read (Elt F) (b0V).view (View.write (Elt F) (b0V).view f0 _ Finset.univ) x = _
    rw [View.write_whole_univ]; rfl
  have e1 : ∀ x, tile_body.sl.dma0_3 m d L f1 x = m (aLoc d) ((aPiece L 1).view.emb x) := fun x => by
    show View.read (Elt F) (b1V).view (View.write (Elt F) (b1V).view f1 _ Finset.univ) x = _
    rw [View.write_whole_univ]; rfl
  isplitl [Had Ha0 Ha1 Ho0' Ho1']
  · isplitl [Had Ha0 Ha1]
    · iapply (share_two (F := F) d L q (m (aLoc d))).2
      isplitl [Had]; · iexact Had
      isplitl [Ha0] <;> iassumption
    isplitl [Ho0']
    · iapply (Entails.of_eq ((pts_oPiece (F := F) d L 0 (top m d)).trans (pointsTo_congr fun i hi => (piece_value m d L 0 f _ e0 i hi).symm)).symm)
      iexact Ho0'
    iapply (Entails.of_eq ((pts_oPiece (F := F) d L 1 (top m d)).trans (pointsTo_congr fun i hi => (piece_value m d L 1 f _ e1 i hi).symm)).symm)
    iexact Ho1'
  isplitl [Hb0' Hb1' Hbufs]
  · isplitl [Hb0']; · iexists _; iexact Hb0'
    isplitl [Hb1']; · iexists _; iexact Hb1'
    iexact Hbufs
  isplitl [Hs2 Hs3 Hs4 Hs5 Hsems]
  · isplitl [Hs2]; · iexact Hs2
    isplitl [Hs3]; · iexact Hs3
    isplitl [Hs4]; · iexact Hs4
    isplitl [Hs5]; · iexact Hs5
    iexact Hsems
  iexists _; isplitr
  swap; · iexact HO
  ipureintro; intro p hp
  simp only [Finset.mem_insert] at hp
  rcases hp with rfl | rfl | rfl | rfl | hp
  · exact .inr rfl
  · exact .inr rfl
  · exact .inr rfl
  · exact .inr rfl
  · exact .inl hp

/-- The call's code on a vector subcore is the task at that subcore's coordinates. -/
theorem defs₀_vector (c : Fin τ.nSC) (s : Fin τ.nSub) :
    defs₀ (F := F) (.scVector c s) 0 ()
      = SparseCore.onTile hcore0 hsub0 (fun c s => cc0__sc_lookup (coordsV c s) aV (Memref.isWhole_whole _) oV (Memref.isWhole_whole _)
          b0V (Memref.isWhole_whole _) b1V (Memref.isWhole_whole _) cc0_scratch2 cc0_scratch3 cc0_scratch4 cc0_scratch5) ⟨⟩ c s := rfl

omit [FloatOps F] in
/-- A task that waits at index `none` alone waits where the call allows. -/
theorem waits_allowed {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %h, HO⟩
  isplitl [HA]; · iexact HA
  isplitl [HB]; · iexact HB
  isplitl [HC]; · iexact HC
  iexists W'; isplitr; · ipureintro; exact fun p hp => (h p hp).imp_right Or.inl
  iexact HO

set_option maxRecDepth 16384 in
/-- Every vector subcore's task turns what it is given into what it brings back. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF (tileShare (Fin.cast nCore_zero c) (Fin.cast nSub_zero i)) _ O W hO).trans
    (wp_mono frame _ _ fun _ => waits_allowed)

end Cert.Proof.Copy

end
-- ==== Proof.Deal.lean ====
/-
  The SparseCore call's operands dealt out and joined again: the table as read shares, one to each SparseCore and of
  that one to each of its subcores; the output as its pieces of sixteen rows.
-/
module

public import proofs.«01_k».proof.Proof.Setup

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]
variable (m : (ℓ : Loc nD τ sig) → Buf (Elt F) ℓ)

local notation "𝕄" => MT nD τ sig (HIx 1) (Elt F) ℕ UU ℕ

/-- The tasks of a SparseCore, counted by `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands are its tasks', and its tasks' results are its own, whatever the output holds. -/
theorem core_split (d : Dev nD) (c : Fin 2) (f g : Buf (Elt F) (oLoc d)) :
    coreRes m d c f ⊢ iprop((bigSep Finset.univ fun s : Fin 16 => tileRes m d c s f)
      ∗ ((bigSep Finset.univ fun s : Fin 16 => tileRes m d c s g) -∗ coreRes m d c g)) := by
  have e : ∀ f : Buf (Elt F) (oLoc d), (bigSep Finset.univ fun s : Fin 16 => tileRes m d c s f)
      = iprop((bigSep Finset.univ fun s : Fin 16 => aLoc d ↦{tileShare c s} m (aLoc d)) ∗ bigSep Finset.univ fun s : Fin 16 => oPts d (coordsV c s) f) :=
    fun f => bigSep_sep' _ _ _
  rw [e f, e g]
  iintro ⟨Ha, Ho⟩
  ihave Ha' := (Transfers.pointsTo_toks_split (Ix := HIx 1) (Name := ℕ) (U := UU) (Lvl := ℕ) (ℓ := aLoc d) (f := m (aLoc d)) (S := Finset.univ) (coreShare c) 16) $$ Ha
  icases Ha' with ⟨Had, Hat⟩
  isplitl [Hat Ho]
  · isplitl [Hat] <;> iassumption
  iintro ⟨Hat, Ho⟩
  isplitl [Had Hat]
  · iapply (Transfers.pointsTo_toks_join (Ix := HIx 1) (Name := ℕ) (U := UU) (Lvl := ℕ) (ℓ := aLoc d) (f := m (aLoc d)) (S := Finset.univ) (coreShare c) 16)
    isplitl [Had] <;> iassumption
  iexact Ho

/-- The call deals its operands to its tasks and joins what they bring back. -/
theorem vecSplit : (K (F := F)).VecSplit' (P m) 0 := by
  intro d c
  show coreRes m d (Fin.cast nCore_zero c) (m (oLoc d)) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (top m d))
          -∗ coreRes m d (Fin.cast nCore_zero c) (top m d)))
  rw [bigSep_tasks (F := F) (fun i => tileRes m d (Fin.cast nCore_zero c) i (m (oLoc d))),
    bigSep_tasks (F := F) (fun i => tileRes m d (Fin.cast nCore_zero c) i (top m d))]
  iintro H; imodintro
  iapply (core_split m d (Fin.cast nCore_zero c) (m (oLoc d)) (top m d)); iexact H

omit [FloatOps F] in
/-- The output is the pieces of both SparseCores' subcores. -/
theorem out_cores (d : Dev nD) (f : Buf (Elt F) (oLoc d)) :
    (oLoc d ↦{fullShare} f : sProp 𝕄)
      = iprop((bigSep Finset.univ fun s : Fin 16 => oPts d (coordsV (0 : Fin 2) s) f)
          ∗ bigSep Finset.univ fun s : Fin 16 => oPts d (coordsV (1 : Fin 2) s) f) := by
  rw [out_pieces, bigSep_univ_prod, BI.bigSep_fin_two]
  simp only [bigSep_univ_prod, BI.bigSep_fin_two]
  rfl

/-- The operands of the call for both SparseCores, joined: a part of the table's share stays behind. -/
theorem call_operands (d : Dev nD) (f : Buf (Elt F) (oLoc d)) :
    iprop((aLoc d ↦{fullShare} m (aLoc d)) ∗ oLoc d ↦{fullShare} f : sProp 𝕄)
      ⊣⊢ iprop((aLoc d ↦{shareDrop fullShare 2} m (aLoc d)) ∗ coreRes m d 0 f ∗ coreRes m d 1 f) := by
  have h : (aLoc d ↦{fullShare} m (aLoc d) : sProp 𝕄)
      ⊣⊢ iprop((aLoc d ↦{shareDrop fullShare 2} m (aLoc d)) ∗ (aLoc d ↦{coreShare 0} m (aLoc d)) ∗ aLoc d ↦{coreShare 1} m (aLoc d)) := by
    have h := Transfers.pointsTo_toks (Ix := HIx 1) (Name := ℕ) (U := UU) (Lvl := ℕ) (ℓ := aLoc d) (f := m (aLoc d)) (S := Finset.univ) fullShare 2
    rw [BI.bigSep_fin_two] at h
    exact h
  rw [out_cores]
  unfold coreRes
  constructor
  · iintro ⟨Ha, Ho0, Ho1⟩
    ihave Ha' := h.1 $$ Ha
    icases Ha' with ⟨Had, Ha0, Ha1⟩
    isplitl [Had]; · iexact Had
    isplitl [Ha0 Ho0]
    · isplitl [Ha0] <;> iassumption
    isplitl [Ha1] <;> iassumption
  · iintro ⟨Had, ⟨Ha0, Ho0⟩, ⟨Ha1, Ho1⟩⟩
    isplitl [Had Ha0 Ha1]
    · iapply h.2
      isplitl [Had]; · iexact Had
      isplitl [Ha0] <;> iassumption
    isplitl [Ho0] <;> iassumption

/-- What the call takes from @main. -/
theorem st_eq (d : Dev nD) : (bigSep Finset.univ fun c : Fin ((K (F := F)).nCore 0) => (P m).st 0 d c) = iprop(coreRes m d 0 (m (oLoc d)) ∗ coreRes m d 1 (m (oLoc d))) :=
  BI.bigSep_fin_two _
/-- What it hands back. -/
theorem dn_eq (d : Dev nD) : (bigSep Finset.univ fun c : Fin ((K (F := F)).nCore 0) => (P m).dn 0 d c) = iprop(coreRes m d 0 (top m d) ∗ coreRes m d 1 (top m d)) :=
  BI.bigSep_fin_two _

end Cert.Proof.Copy

end
-- ==== Proof.Region.lean ====
/-
  The TensorCore call: a pipeline of four blocks of 2048 rows, each fetched from the table, copied by the body, and
  written back. Its output ends up equal to the table.
-/
module

public import proofs.«01_k».proof.Proof.Setup
public import Idealize.ShloMosaic.Lib.Pipeline.ValueKit
public import Idealize.ShloMosaic.Lib.VecWindow

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]
variable (m : (ℓ : Loc nD τ sig) → Buf (Elt F) ℓ)

local notation "𝕄" => MT nD τ sig (HIx 1) (Elt F) ℕ UU ℕ

open Idealize.ShloMosaic.TcCoe
open Idealize.ShloMosaic.Pipeline (Dat BodyObligation)

/-! ## The body -/

set_option maxHeartbeats 4000000 in
/-- The body copies the first staging buffer into the second. -/
theorem copy_run (c : Dev nD) (i : grid1.Coords) (M0 : Memref sig .tc .vmem S2048x1024 .f32) (h0 : M0.IsWhole) (M1 : Memref sig .tc .vmem S2048x1024 .f32) (h1 : M1.IsWhole)
    (f0 : Buf (Elt F) (M0.view.loc (c : Thread nD τ))) (f1 : Buf (Elt F) (M1.view.loc (c : Thread nD τ))) (E : Set ℕ) (Q : PUnit → sProp 𝕄) :
    iprop((M0.view.loc (c : Thread nD τ) ↦{fullShare} f0) ∗ (M1.view.loc (c : Thread nD τ) ↦{fullShare} f1)
        ∗ ((∃ g, ⌜M1.view.read (Elt F) g = M0.view.read (Elt F) f0⌝ ∗ (M0.view.loc (c : Thread nD τ) ↦{fullShare} f0) ∗ M1.view.loc (c : Thread nD τ) ↦{fullShare} g) -∗ Q ⟨⟩))
      ⊢ wp frame (wpE (defs₀ (F := F)) 𝒱₀ c none) E (cc1__copy_body i M0 h0 M1 h1) Q := by
  iintro ⟨H0, H1, Hk⟩
  sl_exec!
  sl_step
  iapply Hk
  iexists _
  isplitr; swap
  · isplitl [H0]; · iexact H0
    iexact H1
  ipureintro
  funext y
  unfold copy_run.sl.H1_1
  refine (View.read_writes_cons_hit_of_coords M1.view _ _ _ [] y y ?_).trans ?_
  · intro a; fin_cases a <;> simp
  · exact congrFun (View.readAt_full M0.view f0 inb_S2048x1024_S2048x1024_0_0) y

/-- The same of the buffers owned at what they read. -/
theorem copy_owns (c : Dev nD) (i : grid1.Coords) (M0 : Memref sig .tc .vmem S2048x1024 .f32) (h0 : M0.IsWhole) (M1 : Memref sig .tc .vmem S2048x1024 .f32) (h1 : M1.IsWhole)
    (X : S2048x1024.Idx → Elt F .f32) (Y : S2048x1024.Idx → Elt F .f32) (E : Set ℕ) (Q : PUnit → sProp 𝕄) :
    iprop(owns (c : Thread nD τ) M0 fullShare X ∗ owns (c : Thread nD τ) M1 fullShare Y
        ∗ (iprop(owns (c : Thread nD τ) M0 fullShare X ∗ owns (c : Thread nD τ) M1 fullShare X) -∗ Q ⟨⟩))
      ⊢ wp frame (wpE (defs₀ (F := F)) 𝒱₀ c none) E (cc1__copy_body i M0 h0 M1 h1) Q := by
  unfold owns
  rw [h0.set_eq_univ, h1.set_eq_univ]
  iintro ⟨⟨%f0, %e0, H0⟩, ⟨%f1, -, H1⟩, Hk⟩
  iapply (copy_run c i M0 h0 M1 h1 f0 f1 E Q)
  isplitl [H0]; · iexact H0
  isplitl [H1]; · iexact H1
  iintro ⟨%g, %e, H0, H1⟩
  iapply Hk
  isplitl [H0]
  · iexists f0; isplitr; · ipureintro; exact e0
    iexact H0
  iexists g; isplitr; · ipureintro; exact e.trans e0
  iexact H1

/-! ## The pipeline's proof data, at an entry valuation -/

variable (V : (c : Dev nD) → (b : Ref sig .tc) → Buf (Elt F) ((c : Thread nD τ).loc b)) (bnd : ℕ)

/-- The block of the table that the pipeline fetches at point `t`. -/
abbrev fetchedBlock (c : Dev nD) (t : Fin cfg1.N) : S2048x1024.Idx → Elt F .f32 :=
  ((cfg1.win 0).blk t).view.read (Elt F) (V c main_arg1)

/-- The proof data: the arrays at the valuation, both staging buffers left at the fetched block, nothing owed, and no
    wait recorded above level `bnd`. -/
def dat (c : Dev nD) : Dat τ (Elt F) (HIx 1) ℕ UU ℕ cfg1 c where
  A w := V c (Pipeline.arrRef spec1 w)
  after w t := match w with
    | ⟨0, _⟩ => fetchedBlock V c t
    | ⟨1, _⟩ => fetchedBlock V c t
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ bnd}

/-- No table is prefetched. -/
abbrev adm : (p : Fin 1) → (pcfgs (F := F) p).Adm := fun p => (cfgs p).toPCfg_adm

/-- The proof data of the one pipeline. -/
def pdats : (p : Fin 1) → (c : Dev nD) → Dat τ (Elt F) (HIx 1) ℕ UU ℕ (Pipeline.pin (pcfgs (F := F)) adm p) c
  | ⟨0, _⟩ => fun c => dat V bnd c

/-- The first window's buffer holds the fetched block when the body runs. -/
theorem before_table (c : Dev nD) (t : Fin cfg1.N) (d : (cfg1.win 0).block.Idx → Elt F (cfg1.win 0).elt) :
    (dat V bnd c).before 0 t d = fetchedBlock V c t :=
  ((dat V bnd c).before_fetched 0 t (fetch1_0 t) d).trans rfl

/-- The body at every point turns the fetched block into the same block in both buffers. -/
theorem body_obligation (c : Dev nD) : BodyObligation (dat V bnd c) (defs₀ (F := F)) 𝒱₀ (none : HIx 1) Set.univ := fun t => by
  rw [bigSep_W1, bigSep_W1]
  rw [show (dat V bnd c).Φ t.succ = (dat V bnd c).Φ t.castSucc from rfl,
    show (dat V bnd c).owesAt (none : HIx 1) t.succ = (dat V bnd c).owesAt (none : HIx 1) t.castSucc from rfl]
  iintro ⟨HΦ, Howes, ⟨%d0, H0⟩, ⟨%d1, H1⟩⟩
  rw [before_table]
  iapply (copy_owns c (grid1.coords t) (win1_0.stage (cfg1.slots t 0)) (hstage1_0 ((cfg1.slots t 0).cast nbuf1_0)) (win1_1.stage (cfg1.slots t 1))
    (hstage1_1 ((cfg1.slots t 1).cast nbuf1_1)) (fetchedBlock V c t) _ Set.univ _)
  isplitl [H0]; · iexact H0
  isplitl [H1]; · iexact H1
  iintro ⟨H0, H1⟩
  isplitl [HΦ]; · iexact HΦ
  isplitl [Howes]; · iexact Howes
  isplitl [H0]; · iexact H0
  iexact H1

/-! ## What the pipeline leaves in its output array -/

/-- The output array ends up equal to the table: the four blocks cover it, and each holds the table's rows at its own place. -/
theorem result_array (c : Dev nD) : (dat V bnd c).arrAt 1 cfg1.N = V c main_arg1 := by
  refine (dat V bnd c).arrAt_eq_of_covers 1 _ (by decide +kernel) fun t hf y => ?_
  blk_simp
  rfl

/-! ## The region over the TensorCore's buffers -/

/-- The core owes nothing, and its waits so far lie at level `bnd` or below. -/
abbrev idle (c : Dev nD) : sProp 𝕄 :=
  iprop(∃ W, ⌜(K (F := F)).WBelow (c : Thread nD τ) W bnd⌝ ∗ owes (c : Thread nD τ) (0 : CellTallies nD τ sig (HIx 1)) W)

/-- An idle core is within what the pipeline's data allows at its start. -/
theorem owesAt_of_idle (c : Dev nD) : idle (F := F) bnd c ⊢ (pdats V bnd 0 c).owesAt (none : HIx 1) 0 := by
  unfold Pipeline.Dat.owesAt Pipeline.owesWithin
  iintro ⟨%W, %hW, HO⟩
  iexists W
  isplitr; · ipureintro; exact fun p hp => Or.inl (hW p hp)
  iexact HO

/-- What the pipeline's data allows at its end is an idle core: the waits on the pipeline's own semaphores lie at level 0. -/
theorem idle_of_owesAt (c : Dev nD) : (pdats V bnd 0 c).owesAt (none : HIx 1) (Fin.last _) ⊢ idle (F := F) bnd c := by
  unfold Pipeline.Dat.owesAt Pipeline.owesWithin
  iintro ⟨%W, %hW, HO⟩
  iexists W
  isplitr
  · ipureintro
    intro p hp
    rcases hW hp with h | ⟨w, s, h⟩
    · exact h
    · rw [h]; exact Nat.zero_le _
  iexact HO

variable (Vp : (c : Dev nD) → (b : Ref sig .tc) → Buf (Elt F) ((c : Thread nD τ).loc b))

set_option backward.isDefEq.respectTransparency.types false in
/-- The pipeline from any valuation `V` of the unscoped buffers to any `Vp` that holds the pipeline's result in its output
    array and agrees with `V` elsewhere. -/
def region (hout : ∀ c, Vp c main_v1 = (dat V bnd c).arrAt 1 cfg1.N) (hne : ∀ c (b : Ref sig .tc), b ≠ main_v1 → Vp c b = V c b) :
    Pipeline.RegionSeg (pcfgs (F := F)) adm (pdats V bnd) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V bnd c).loose
  hwaits := Pipeline.hwaits_of_owed_zero _ _ _ _ (K (F := F)).L (K (F := F)).lev 0 fun _ _ => rfl
  pre c := iprop(unscopedBufs c (V c) ∗ idle (F := F) bnd c)
  post c := iprop(unscopedBufs c (Vp c) ∗ idle (F := F) bnd c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V bnd) launch1.win launch1.arr_whole c
      ((pdats V bnd 0 c).share_full fun _ => rfl) (V c) fun _ => rfl
    iintro ⟨⟨Hbufs, Hidle⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hidle]; · iapply (owesAt_of_idle V bnd c); iexact Hidle
    isplitr; · iempintro
    iexact Hrest
  hin c := by
    rw [show (pdats V bnd 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V bnd 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V bnd) ((pdats V bnd 0 c).share_full fun _ => rfl) (V c) (Vp c) ((pdats V bnd 0 c).arrAt · cfg1.N)
      (fun w => by
        fin_cases w
        · exact ((pdats V bnd 0 c).arrAt_in 0 rfl _).trans (hne c main_arg1 (by decide)).symm
        · exact (hout c).symm)
      (fun b hb => hne c b fun h => hb (h ▸ Finset.mem_image.mpr ⟨1, Finset.mem_univ _, rfl⟩))
    iintro ⟨Harr, HO, -, Hrest⟩
    imodintro
    isplitl [Harr Hrest]
    · iapply hjoin; isplitl [Harr] <;> iassumption
    iapply (idle_of_owesAt V bnd c); iexact HO

end Cert.Proof.Copy

end
-- ==== Proof.Host.lean ====
/-
  The host's part of @main: what every buffer holds after the SparseCore call, after the TensorCore call and after the
  host's operations; the last of them puts the SparseCore's rows over the TensorCore's first 1024, which are the same.
-/
module

public import proofs.«01_k».proof.Proof.Region

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]
variable (m : (ℓ : Loc nD τ sig) → Buf (Elt F) ℓ)

local notation "𝕄" => MT nD τ sig (HIx 1) (Elt F) ℕ UU ℕ

open Idealize.ShloMosaic.TcCoe

/-! ## The buffers' contents along @main -/

/-- At the launch. -/
def atLaunch (d : Dev nD) : Valuation τ sig (Elt F) := fun b => m (d, b)

/-- After the SparseCore call: its output holds the table's first 1024 rows. -/
def afterSparse (d : Dev nD) : Valuation τ sig (Elt F) := Function.update (atLaunch m d) (main_v0 : DevRef τ sig) (top m d)

/-- After the TensorCore call: its output holds the table. -/
def afterDense (d : Dev nD) : Valuation τ sig (Elt F) := Function.update (afterSparse m d) (main_v1 : DevRef τ sig) (m (aLoc d))

/-- The host's first operation: the start row. -/
def startRow : HloOp τ sig (Elt F) := StableHlo.nullary main_c (constantI S_ 32 0#32)
/-- The host's second operation: the start column. -/
def startCol : HloOp τ sig (Elt F) := StableHlo.nullary main_c_0 (constantI S_ 32 0#32)
/-- The host's last operation: the update. -/
def putRows : HloOp τ sig (Elt F) :=
  StableHlo.binaryIndexed main_v1 main_v0 ![main_c, main_c_0] ⟨S_, .i32⟩ main_v2
    (fun x u i => Host.dynamicUpdateSlice x u (fun k => (i k (Shape.Idx.first h_S_)).toInt) updateFits_S8192x1024_S1024x1024)
/-- The host's operations in order. -/
def hostOps : List (HloOp τ sig (Elt F)) := [startRow, startCol, putRows]

/-- After the two start indices are written. -/
def afterStarts (d : Dev nD) : Valuation τ sig (Elt F) := startCol.result (startRow.result (afterDense m d))

/-- At the end. -/
def atEnd (d : Dev nD) : Valuation τ sig (Elt F) := putRows.result (afterStarts m d)

/-- @main is the SparseCore call, the TensorCore call and the host's operations, in order. -/
theorem main_eq (d : Dev nD) : main (F := F) d =
    (sc.run d 0 >>= fun _ => Prog.lift (.customCall (SparseCore.inner (Pipeline.entry 0)) ()) >>= fun _ => StableHlo.seq hostOps >>= fun _ => pure ⟨⟩) := rfl

/-! ## The last operation -/

/-- Writing the first 1024 rows of an array over its own first 1024 rows changes nothing. -/
theorem update_top {α : Type} (x : S8192x1024.Idx → α) (u : S1024x1024.Idx → α) (st : Fin 2 → ℤ) (hst : ∀ k, st k = 0) (hu : ∀ j, u j = x (up j)) :
    Host.dynamicUpdateSlice x u st updateFits_S8192x1024_S1024x1024 = x := by
  obtain rfl : st = fun _ => 0 := funext hst
  funext i
  rw [Host.dynamicUpdateSlice_apply]
  split
  · rw [hu]
    refine congrArg x (funext fun a => ?_)
    apply Fin.ext
    fin_cases a <;> simp [up, Shape.Idx.norm, Host.clampedStart]
  · rfl

theorem startRow_ne (W : Valuation τ sig (Elt F)) (r : Ref sig .tc) (h : r ≠ main_c) : startRow.result W (r : DevRef τ sig) = W (r : DevRef τ sig) :=
  HloOp.result_of_not_mem _ _ (by unfold startRow; rw [StableHlo.nullary_writes, Finset.mem_singleton]; exact StableHlo.devRef_ne_of_ne h)

theorem startCol_ne (W : Valuation τ sig (Elt F)) (r : Ref sig .tc) (h : r ≠ main_c_0) : startCol.result W (r : DevRef τ sig) = W (r : DevRef τ sig) :=
  HloOp.result_of_not_mem _ _ (by unfold startCol; rw [StableHlo.nullary_writes, Finset.mem_singleton]; exact StableHlo.devRef_ne_of_ne h)

theorem putRows_ne (W : Valuation τ sig (Elt F)) (r : Ref sig .tc) (h : r ≠ main_v2) : putRows.result W (r : DevRef τ sig) = W (r : DevRef τ sig) :=
  HloOp.result_of_not_mem _ _ (by unfold putRows; rw [StableHlo.binaryIndexed_writes, Finset.mem_singleton]; exact StableHlo.devRef_ne_of_ne h)

/-- Writing the start indices leaves every other buffer. -/
theorem afterStarts_ne (d : Dev nD) (r : Ref sig .tc) (h : r ≠ main_c) (h' : r ≠ main_c_0) : afterStarts m d (r : DevRef τ sig) = afterDense m d (r : DevRef τ sig) :=
  (startCol_ne _ r h').trans (startRow_ne _ r h)

/-- The start row is zero. -/
theorem start_row (d : Dev nD) : afterStarts m d (main_c : DevRef τ sig) = constantI S_ 32 0#32 :=
  (startCol_ne _ main_c (by decide)).trans (StableHlo.nullary_result main_c _ _ _)

/-- The start column is zero. -/
theorem start_col (d : Dev nD) : afterStarts m d (main_c_0 : DevRef τ sig) = constantI S_ 32 0#32 := StableHlo.nullary_result main_c_0 _ _ _

theorem afterDense_table (d : Dev nD) : afterDense m d (main_v1 : DevRef τ sig) = m (aLoc d) := Function.update_self _ _ _

theorem afterSparse_table (d : Dev nD) : afterSparse m d (main_arg1 : DevRef τ sig) = m (aLoc d) :=
  Function.update_of_ne (StableHlo.devRef_ne_of_ne (by decide)) _ _

theorem afterDense_top (d : Dev nD) : afterDense m d (main_v0 : DevRef τ sig) = top m d :=
  (Function.update_of_ne (StableHlo.devRef_ne_of_ne (by decide)) _ _).trans (Function.update_self _ _ _)

/-- The program's result is the table. -/
theorem atEnd_result (d : Dev nD) : atEnd m d (main_v2 : DevRef τ sig) = m (aLoc d) := by
  refine (show putRows.result (afterStarts m d) (main_v2 : DevRef τ sig) = _ from StableHlo.binaryIndexed_result main_v1 main_v0 ![main_c, main_c_0] ⟨S_, .i32⟩ main_v2 _ _ _ _ _ _ _).trans ?_
  rw [afterStarts_ne m d main_v1 (by decide) (by decide), afterStarts_ne m d main_v0 (by decide) (by decide), afterDense_table, afterDense_top]
  refine update_top _ _ _ (fun k => ?_) fun _ => rfl
  fin_cases k
  · exact congrArg (fun c : (⟨S_, .i32⟩ : BufTy).Contents (Elt F) => BitVec.toInt (c (Shape.Idx.first h_S_))) (start_row m d)
  · exact congrArg (fun c : (⟨S_, .i32⟩ : BufTy).Contents (Elt F) => BitVec.toInt (c (Shape.Idx.first h_S_))) (start_col m d)

/-- A buffer that no step writes is at the end as it was at the launch. -/
theorem atEnd_kept (d : Dev nD) (r : Ref sig .tc) (h : r ∉ [main_v0, main_v1, main_c, main_c_0, main_v2]) : atEnd m d (r : DevRef τ sig) = m (d, (r : DevRef τ sig)) := by
  simp only [List.mem_cons, List.not_mem_nil, or_false, not_or] at h
  obtain ⟨h0, h1, h2, h3, h4⟩ := h
  refine (putRows_ne _ r h4).trans ?_
  refine (afterStarts_ne m d r h2 h3).trans ?_
  exact (Function.update_of_ne (StableHlo.devRef_ne_of_ne h1) _ _).trans (Function.update_of_ne (StableHlo.devRef_ne_of_ne h0) _ _)

end Cert.Proof.Copy

end
-- ==== Proof.Run.lean ====
/-
  The whole program's run: the SparseCore call, the TensorCore call and the host's operations on each device, from the
  launch to a memory whose result is the table and whose arguments are as they were, every semaphore at zero.
-/
module

public import proofs.«01_k».proof.Proof.Tile
public import proofs.«01_k».proof.Proof.Deal
public import proofs.«01_k».proof.Proof.Host

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]
variable (m : (ℓ : Loc nD τ sig) → Buf (Elt F) ℓ) (ρ : Dev nD → PrngReg)

local notation "𝕄" => MT nD τ sig (HIx 1) (Elt F) ℕ UU ℕ

open Idealize.ShloMosaic.TcCoe

/-! ## The unscoped buffers -/

/-- The unscoped buffers' references. -/
def arrays : Finset (DevRef τ sig) := (StableHlo.tcRefs τ sig).filter fun b => ¬ b.isScoped

/-- The unscoped buffers at a valuation are that set held at it. -/
theorem bufs_eq_held (d : Dev nD) (W : Valuation τ sig (Elt F)) :
    (unscopedBufs d (fun b => W b) : sProp 𝕄) = StableHlo.held (d : Thread nD τ) arrays W := by
  unfold unscopedBufs StableHlo.held arrays StableHlo.tcRefs
  rw [Finset.filter_map, bigSep_map]
  rfl

/-- The unscoped buffers, one by one. -/
theorem bufs_eq (d : Dev nD) (W : Valuation τ sig (Elt F)) :
    (unscopedBufs d (fun b => W b) : sProp 𝕄) = iprop((xLoc d ↦{fullShare} W main_arg0) ∗ (aLoc d ↦{fullShare} W main_arg1) ∗ (oLoc d ↦{fullShare} W main_v0)
      ∗ ((SparseCore.T d).loc main_v1 ↦{fullShare} W main_v1) ∗ ((SparseCore.T d).loc main_c ↦{fullShare} W main_c) ∗ ((SparseCore.T d).loc main_c_0 ↦{fullShare} W main_c_0)
      ∗ ((SparseCore.T d).loc main_v2 ↦{fullShare} W main_v2)) := by
  unfold unscopedBufs
  rw [show (Finset.univ.filter fun b : Ref sig .tc => ¬ b.isScoped) = {main_arg0, main_arg1, main_v0, main_v1, main_c, main_c_0, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-! ## The two calls -/

/-- What the launch hands the TensorCore of device `d` for its pipeline. -/
abbrev G (d : Dev nD) : sProp 𝕄 := iprop(Pipeline.cellsGhost cfgs EP 0 d ∗ Pipeline.toksInit cfgs EP 0 d)

/-- The SparseCore call, from the buffers as launched to its output at the table's first rows. -/
theorem sparse_call [∀ e, Nonempty (Elt F e)] (κ : GSem nD τ sig → ℕ) (d : Dev nD) (Q : PUnit → sProp 𝕄) :
    iprop((K (F := F)).ctx EH (P m) κ ∗ (K (F := F)).tcSt EH d 0 ∗ unscopedBufs d (fun b => atLaunch m d b)
        ∗ (iprop((K (F := F)).tcSt EH d 1 ∗ unscopedBufs d (fun b => afterSparse m d b)) -∗ Q ⟨⟩))
      ⊢ wp frame (wpE ((K (F := F)).defs (D (F := F))) 𝒱 (SparseCore.T d) none) Set.univ (sc.run d 0) Q := by
  rw [bufs_eq, bufs_eq]
  iintro ⟨#Hctx, Hst, ⟨Hx, Ha, Ho, Hrest⟩, Hk⟩
  ihave Hcall := (call_operands m d (m (oLoc d))).1 $$ [Ha Ho]
  · isplitl [Ha]; · iexact Ha
    iexact Ho
  icases Hcall with ⟨Hdrop, Hcores⟩
  iapply ((K (F := F)).wp_run (D (F := F)) 𝒱 (EH := EH) (P := P m) κ d 0) $$ [-]
  isplitr; · iexact Hctx
  isplitl [Hst]; · iexact Hst
  isplitl [Hcores]; · rw [st_eq]; iexact Hcores
  iintro ⟨Hst, Hdn⟩
  ihave Hcores := (Entails.of_eq (dn_eq m d)) $$ Hdn
  ihave Hcall := (call_operands m d (top m d)).2 $$ [Hdrop Hcores]
  · isplitl [Hdrop]; · iexact Hdrop
    iexact Hcores
  icases Hcall with ⟨Ha, Ho⟩
  iapply Hk
  isplitl [Hst]; · iexact Hst
  isplitl [Hx]; · iexact Hx
  isplitl [Ha]; · iexact Ha
  isplitl [Ho]; · iexact Ho
  iexact Hrest

/-- The pipeline's own step, from its output at anything to its output at the table. -/
def denseRegion := region (F := F) (fun c b => afterSparse m c b) 8 (fun c b => afterDense m c b)
  (fun c => (afterDense_table m c).trans ((result_array (fun c b => afterSparse m c b) 8 c).trans (afterSparse_table m c)).symm)
  (fun c b hb => Function.update_of_ne (StableHlo.devRef_ne_of_ne hb) _ _)

/-- The TensorCore call below the SparseCore layer. -/
theorem dense_inner [∀ e, Nonempty (Elt F e)] (d : Dev nD) (Q : PUnit → sProp 𝕄) :
    iprop((iprop(boundary (d.tc : Thread nD τ) ∗ (denseRegion m).post d) -∗ Q ⟨⟩)
        ∗ boundary (d.tc : Thread nD τ) ∗ (denseRegion m).pre d ∗ levAts (K (F := F)).L (K (F := F)).lev ∗ G (F := F) d)
      ⊢ wp frame (wpE (D (F := F)) 𝒱 (d.tc : Thread nD τ) none) Set.univ (.op (.customCall (Pipeline.entry 0) ()) .ret) Q := by
  have hR := Pipeline.RegionSeg.wp (pcfgs (F := F)) adm (pdats (fun c b => afterSparse m c b) 8) (none : HIx 1) cellOf_inj EP defs₀ 𝒱₀ (K (F := F)).L (K (F := F)).lev
    (denseRegion m) d none (by simp) .ret Q
  refine .trans ?_ hR
  iintro ⟨Hk, Hb, Hpre, Hlev, Hg, Ht⟩
  isplitl [Hk]
  · iintro H
    rw [show (Prog.ret : PUnit → Prog (TpuEff nD τ sig (Elt F) (ΛP (F := F)) .tc) PUnit) ⟨⟩ = pure ⟨⟩ from rfl, wp_pure]
    imodintro
    iapply Hk; iexact H
  isplitl [Hb]; · iexact Hb
  isplitl [Hpre]; · iexact Hpre
  isplitl [Hlev]; · iexact Hlev
  isplitl [Hg]; · iexact Hg
  iexact Ht

/-- The TensorCore call, from its output at anything to its output at the table. -/
theorem dense_call [∀ e, Nonempty (Elt F e)] (d : Dev nD) (Q : PUnit → sProp 𝕄) :
    iprop((iprop(boundary (SparseCore.T d) ∗ unscopedBufs d (fun b => afterDense m d b) ∗ idle (F := F) 8 d) -∗ Q ⟨⟩)
        ∗ boundary (SparseCore.T d) ∗ (unscopedBufs d (fun b => afterSparse m d b) ∗ idle (F := F) 8 d) ∗ levAts (K (F := F)).L (K (F := F)).lev ∗ G (F := F) d)
      ⊢ wp frame (wpE ((K (F := F)).defs (D (F := F))) 𝒱 (SparseCore.T d) none) Set.univ (Prog.lift (.customCall (SparseCore.inner (Pipeline.entry 0)) ())) Q :=
  (dense_inner m d Q).trans ((K (F := F)).wp_liftProg (D (F := F)) 𝒱 (SparseCore.T d) Set.univ none (.op (.customCall (Pipeline.entry 0) ()) .ret) Q)

/-! ## The launch's ghost state -/

/-- The handshakes' rounds, the pipeline's rounds, and no counter. -/
def u₀ : UU := (initOf (K (F := F)).hsCells (K (F := F)).hsToks, (initOf (Pipeline.cells cfgs cellOf_inj) (Pipeline.launchToks cfgs cellOf_inj), 1))

/-- It deals the handshakes' state, each device its pipeline's state, and each thread nothing. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hone (d : Dev nD) : (bigSep Finset.univ fun p : Fin 1 => (Pipeline.cellsGhost cfgs EP p d : sProp 𝕄)) = Pipeline.cellsGhost cfgs EP 0 d :=
    bigSep_univ_of_subsingleton (0 : Fin 1)
  have hone' (d : Dev nD) : (bigSep Finset.univ fun p : Fin 1 => (Pipeline.toksInit cfgs EP p d : sProp 𝕄)) = Pipeline.toksInit cfgs EP 0 d :=
    bigSep_univ_of_subsingleton (0 : Fin 1)
  have hfund := Pipeline.fund_ghost (nD := nD) (τ := τ) (Ix := HIx 1) (Val := Elt F) (Name := ℕ) (U := UU) (Lvl := ℕ) cfgs EP cellOf_inj
  simp only [hone, hone'] at hfund
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HR⟩
  ihave HR' := (own_pair_emb embR (initOf (Pipeline.cells cfgs cellOf_inj) (Pipeline.launchToks cfgs cellOf_inj) : UP) (1 : Counters)) $$ HR
  icases HR' with ⟨HP, -⟩
  ihave HP' := (Entails.of_eq (show BI.own (((Emb.inl : Emb UP (UP × Counters)).trans embR) (initOf (Pipeline.cells cfgs cellOf_inj) (Pipeline.launchToks cfgs cellOf_inj)))
    = (BI.own (EP (initOf (Pipeline.cells cfgs cellOf_inj) (Pipeline.launchToks cfgs cellOf_inj))) : sProp 𝕄) from rfl)) $$ HP
  imod hfund $$ HP' with ⟨Hg, Ht⟩
  imodintro
  isplitl [HH]; · iexact HH
  isplitl [Hg Ht]
  · unfold G; rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## @main -/

/-- What @main leaves: both arguments as launched, and the result at the table. -/
abbrev FIN (d : Dev nD) : sProp 𝕄 :=
  iprop((xLoc d ↦{fullShare} m (xLoc d)) ∗ (aLoc d ↦{fullShare} m (aLoc d)) ∗ ((SparseCore.T d).loc main_v2 ↦{fullShare} m (aLoc d)))

/-- The handshake state after the call holds an idle core, which may be lent to the TensorCore call. -/
theorem tcSt_idle (d : Dev nD) : ((K (F := F)).tcSt EH d 1 : sProp 𝕄) ⊢ iprop(idle (F := F) 8 d ∗ (idle (F := F) 8 d -∗ (K (F := F)).tcSt EH d 1)) := by
  unfold SparseCore.Cfg.tcSt
  rw [(K (F := F)).Otc_end d le_rfl]
  iintro ⟨HO, Hrest⟩
  isplitl [HO]; · iexact HO
  iintro HO
  isplitl [HO]; · iexact HO
  iexact Hrest

/-- The host's operations touch unscoped buffers only. -/
theorem hostOps_arrays : ∀ op ∈ hostOps (F := F), op.bufs ⊆ arrays := by
  have hmem (r : Ref sig .tc) (h : ¬ r.isScoped) : (r : DevRef τ sig) ∈ arrays := Finset.mem_filter.2 ⟨StableHlo.devRef_mem_tcRefs r, h⟩
  intro op h
  unfold hostOps at h
  simp only [List.mem_cons, List.not_mem_nil, or_false] at h
  rcases h with rfl | rfl | rfl
  · exact Finset.singleton_subset_iff.2 (hmem _ (by decide))
  · exact Finset.singleton_subset_iff.2 (hmem _ (by decide))
  · refine Finset.insert_subset (hmem _ (by decide)) (Finset.insert_subset (hmem _ (by decide)) (Finset.insert_subset (hmem _ (by decide)) (Finset.image_subset_iff.2 fun k _ => hmem _ ?_)))
    fin_cases k <;> decide

/-- No host operation chooses contents of its own. -/
theorem hostOps_fresh : ∀ op ∈ hostOps (F := F), op.fresh = ∅ := by
  intro op h
  unfold hostOps at h
  simp only [List.mem_cons, List.not_mem_nil, or_false] at h
  rcases h with rfl | rfl | rfl <;> rfl

/-- The end of @main: the host's operations, from the TensorCore call's output at the table. -/
theorem host_part (d : Dev nD) (Q : PUnit → sProp 𝕄) :
    iprop(boundary (SparseCore.T d) ∗ unscopedBufs d (fun b => afterDense m d b) ∗ (iprop(boundary (SparseCore.T d) ∗ FIN m d) -∗ Q ⟨⟩))
      ⊢ wp frame (wpE ((K (F := F)).defs (D (F := F))) 𝒱 (SparseCore.T d) none) Set.univ (StableHlo.seq hostOps >>= fun _ => pure ⟨⟩) Q := by
  rw [bufs_eq_held]
  iintro ⟨Hb, Hbufs, Hk⟩
  iapply (StableHlo.wp_seq 𝒱 none Set.univ d arrays (fun _ => pure ⟨⟩) hostOps hostOps_arrays hostOps_fresh (afterDense m d)) $$ [Hb Hbufs]
  · isplitl [Hb]; · iexact Hb
    iexact Hbufs
  rw [show (StableHlo.held (d.tc : Thread nD τ) arrays (StableHlo.after hostOps (afterDense m d)) : sProp 𝕄) = unscopedBufs d (fun b => atEnd m d b) from
    (bufs_eq_held d (atEnd m d)).symm, bufs_eq, wp_pure]
  rw [atEnd_result, atEnd_kept m d main_arg0 (by decide), atEnd_kept m d main_arg1 (by decide)]
  iintro ⟨Hb, Hx, Ha, -, -, -, -, Hr⟩
  imodintro
  iapply Hk
  isplitl [Hb]; · iexact Hb
  isplitl [Hx]; · iexact Hx
  isplitl [Ha]; · iexact Ha
  iexact Hr

/-- @main on device `d`'s TensorCore, from what the launch hands it. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, wp_bind]
  iintro ⟨#Hctx, Hst, ⟨Hb, Hbufs, Hts, -⟩, HG⟩
  iapply (sparse_call m κ d) $$ [-]
  isplitr; · iexact Hctx
  isplitl [Hst]; · iexact Hst
  isplitl [Hbufs]; · iexact Hbufs
  iintro ⟨Hst, Hbufs⟩
  rw [wp_bind]
  ihave H := (tcSt_idle d) $$ Hst
  icases H with ⟨Hidle, Hst⟩
  iapply (dense_call m d) $$ [-]
  isplitr [Hb Hbufs Hidle HG]; swap
  · isplitl [Hb]; · iexact Hb
    isplitl [Hbufs Hidle]
    · isplitl [Hbufs]; · iexact Hbufs
      iexact Hidle
    isplitr; · iapply (SparseCore.Cfg.ctx_levAts κ); iexact Hctx
    iexact HG
  iintro ⟨Hb, Hbufs, Hidle⟩
  iapply (host_part m d) $$ [-]
  isplitl [Hb]; · iexact Hb
  isplitl [Hbufs]; · iexact Hbufs
  iintro ⟨Hb, HF⟩
  isplitl [Hst Hidle]; · iapply Hst; iexact Hidle
  isplitl [HF]; · iexact HF
  isplitl [Hb]; · iexact Hb
  iexact Hts

/-! ## The run -/

/-- What the final memory holds on device `d`. -/
def fq (d : Dev nD) (s' : Phys nD τ sig (Elt F)) : Prop :=
  s'.mem.mem (xLoc d) = m (xLoc d) ∧ s'.mem.mem (aLoc d) = m (aLoc d) ∧ s'.mem.mem ((SparseCore.T d).loc main_v2) = m (aLoc d)

set_option maxRecDepth 16384 in
/-- What @main leaves is what the final memory holds. -/
theorem hfin (d : Dev nD) (s' : Phys nD τ sig (Elt F)) : iprop(FIN m d ∗ SI s') ⊢ (⌜fq m d s'⌝ : sProp 𝕄) := by
  iintro ⟨⟨Hx, Ha, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := (SparseCore.T d).loc main_v2) (I := Finset.univ) (q := fullShare) (f := m (aLoc d))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- What every run ends in: the arguments kept, the result the table, every semaphore at zero. -/
def Ends (r : PUnit × MemSt nD τ sig (Elt F)) : Prop :=
  (∀ c : Dev nD, r.2.mem (xLoc c) = m (xLoc c) ∧ r.2.mem (aLoc c) = m (aLoc c) ∧ r.2.mem ((SparseCore.T c).loc main_v2) = m (aLoc c)) ∧ r.2.sem = fun _ => 0

/-- Every run of the program from any memory ends so. -/
theorem run_main [∀ e, Nonempty (Elt F e)] : θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (Ends m) (fun _ h hz => ⟨h, hz⟩)

end Cert.Proof.Copy

end
-- ==== Proof.Lookup.lean ====
module

public import proofs.«01_k».proof.Proof.Gen.ReferenceIdeal.Run
public import Idealize.ShloMosaic.Lib.Routing.Ops
public import Idealize.ShloMosaic.Lib.ReduceAll
public import Idealize.ShloMosaic.Lib.Quiescent

@[expose] public section

noncomputable section

namespace Cert.Proof.Lookup

open Cert.ReferenceIdeal Cert.ReferenceIdeal.Gen
open Idealize.ShloMosaic Idealize.ShloMosaic.TcCoe Idealize.SL.Sem
open Idealize.ShloMosaic.ValueIdx (ix1 ix2 eq_ix2)

variable {F : FTy → Type} [FloatOps F]

/-- The row number the reference looks up for each position: the position's own number, to which 8192 is added where it is
    negative as a signed word. -/
def wrapped : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32))) (iotaInDim S8192 32 0)

/-- The same row numbers as a column. -/
def rowNums : IVec S8192x1 32 := broadcastInDim S8192x1 ![0] bcast_S8192_S8192x1_0 wrapped

/-- Which of the column's row numbers lie between 0 and 8191. -/
def inTable : IVec S8192x1 1 :=
  andi (cmpi .sge rowNums (broadcastInDim S8192x1 ![] bcast_S_S8192x1 (constantI S_ 32 0#32)))
    (cmpi .sle rowNums (broadcastInDim S8192x1 ![0, 1] bcast_S1x1_S8192x1_0_1 (broadcastInDim S1x1 ![1] bcast_S1_S1x1_1 (constantI S1 32 8191#32))))

/-- The reference's result as a function of the table: the rows gathered at the row numbers, and a NaN wherever a row number
    falls outside the table. -/
def lookup (x : Vec F S8192x1024 .f32) : Vec F S8192x1024 .f32 :=
  select (broadcastInDim S8192x1024 ![0] bcast_S8192_S8192x1024_0
      (Host.reduce IntOp.andi inTable (constantI S_ 1 1#1) reducesTo_S8192x1_S8192_d1 h_S_))
    (Host.gather gather_S8192x1024_S8192x1_S8192x1024_1_0_n_n_0_1_11024 x rowNums)
    (broadcastInDim S8192x1024 ![] bcast_S_S8192x1024 (constant S_ .f32 0x7FC00000#32))

/-- A number below 8192, read back from its 32-bit word as a signed integer, is that number. -/
theorem toInt_word (n : Nat) (h : n < 8192) : (BitVec.ofNat 32 n).toInt = (n : Int) := by
  rw [BitVec.toInt_eq_toNat_of_lt] <;> rw [BitVec.toNat_ofNat] <;> omega

/-- The row number of position `n` is `n`. -/
theorem wrapped_apply (i : S8192.Idx) : wrapped i = BitVec.ofNat 32 (i 0).val := by
  have hi : (i 0).val < 8192 := (i 0).isLt
  have hslt : (BitVec.ofNat 32 (i 0).val).slt 0#32 = false := by
    rw [BitVec.slt, toInt_word _ hi]
    exact decide_eq_false (by show ¬ ((i 0).val : Int) < 0; omega)
  refine if_neg ?_
  show ¬ BitVec.ofBool ((BitVec.ofNat 32 (i 0).val).slt 0#32) = 1
  rw [hslt]
  decide

/-- The column holds, at row `n`, the number `n`. -/
theorem rowNums_apply (i : S8192x1.Idx) : rowNums i = BitVec.ofNat 32 (i 0).val :=
  (wrapped_apply _).trans rfl

/-- Every row number lies in the table. -/
theorem inTable_apply (i : S8192x1.Idx) : inTable i = 1#1 := by
  have hi : (i 0).val < 8192 := (i 0).isLt
  have hlo : (0#32).sle (BitVec.ofNat 32 (i 0).val) = true := by
    rw [BitVec.sle, toInt_word _ hi]
    exact decide_eq_true (by show (0 : Int) ≤ ((i 0).val : Int); omega)
  have hhi : (BitVec.ofNat 32 (i 0).val).sle 8191#32 = true := by
    rw [BitVec.sle, toInt_word _ hi]
    exact decide_eq_true (by show ((i 0).val : Int) ≤ 8191; omega)
  show IntOp.andi (BitVec.ofBool ((0#32).sle (rowNums i))) (BitVec.ofBool ((rowNums i).sle 8191#32)) = 1#1
  rw [rowNums_apply, hlo, hhi]
  rfl

/-- No position is masked out: the conjunction along the column's one column is 1 at every row. -/
theorem mask_apply (i : S8192.Idx) :
    Host.reduce IntOp.andi inTable (constantI S_ 1 1#1) reducesTo_S8192x1_S8192_d1 h_S_ i = 1#1 :=
  Host.reduce_andi_one inTable _ _ _ i rfl inTable_apply

/-- The reference's result is the table. -/
theorem lookup_eq (x : Vec F S8192x1024 .f32) : lookup x = x := by
  funext j
  unfold lookup select broadcastInDim
  rw [mask_apply, Scalar.select, if_pos (by decide), eq_ix2 j]
  exact Routing.gather_row (nb := 8192) (B := 1024) (n := 8192) gather_S8192x1024_S8192x1_S8192x1024_1_0_n_n_0_1_11024 rfl rfl rfl rfl rfl x rowNums
    (j 0) (j 1) (j 0) (rowNums_apply _) (by norm_num)

/-- Every run of the reference ends with its result equal to the table it was given, its two arguments unchanged, and no
    semaphore counter above zero. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v1) = m ((c.tc : Thread nD τ).loc main_arg1)
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => ⟨(h c).1.trans (lookup_eq (F := F) _), (h c).2⟩, sem_eq_zero_of_no_sems (by decide) r.2⟩)
    (Value.run m ρ)

end Cert.Proof.Lookup

end
-- ==== Proof.Scalar.lean ====
/-
  The probe on the scalar subcores: a call that both SparseCores' scalar subcores run and that touches no array. Its run
  ends with every array as it was launched, the call's own output among them, and every semaphore at zero.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.Probe

@[expose] public section

noncomputable section

namespace Cert.Proof.Scalar

open Cert.Probe Cert.Probe.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- The ghost state: the handshakes' rounds, and nothing beside them. -/
abbrev UH : Type := URounds (GSem nD τ sig) ℕ
/-- The labels of the program below the SparseCore calls. -/
abbrev ΛP : Labels := Pipeline.Sig Λ₀ (Fin 0) fun p => (pcfgs (F := F) p).Adm
/-- The SparseCore configuration. -/
abbrev K : SparseCore.Cfg τ sig (ΛP (F := F)) 1 := sc (F := F)
/-- The bodies below the SparseCore calls. -/
abbrev D : Defs nD τ sig (Elt F) (ΛP (F := F)) := Pipeline.defs pcfgs defs₀
/-- No loop needs a variant. -/
abbrev 𝒱₀ : Variants := Variants.none
/-- The variants with the pipelines' own. -/
abbrev 𝒱 : Variants := 𝒱₀.lift
/-- The variant at which the bodies run. -/
abbrev v₀ : 𝒱.V := Sum.inl none

local notation "𝕄" => MT nD τ sig (HIx 1) (Elt F) ℕ (UH × Counters) ℕ

/-- Where the handshakes' rounds sit. -/
abbrev EH : Emb UH (MT nD τ sig (HIx 1) (Elt F) ℕ (UH × Counters) ℕ) := embL

/-- The handshake semaphores are distinct and none is scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The call is handed no array and hands none back. -/
def P : (K (F := F)).Pay (nD := nD) (Val := Elt F) (Name := ℕ) (U := UH × Counters) where
  st := fun _ _ _ => iprop(emp)
  dn := fun _ _ _ => iprop(emp)
  go := fun _ _ _ _ => iprop(emp)
  td := fun _ _ _ _ => iprop(emp)
  x := fun _ _ => iprop(emp)

instance P_storable : (P (F := F)).IsStorable where
  st _ _ _ := (inferInstance : BI.Storable (upEmb : UEmb _ 𝕄) iprop(emp))
  dn _ _ _ := (inferInstance : BI.Storable (upEmb : UEmb _ 𝕄) iprop(emp))
  go _ _ _ _ := (inferInstance : BI.Storable (upEmb : UEmb _ 𝕄) iprop(emp))
  td _ _ _ _ := (inferInstance : BI.Storable (upEmb : UEmb _ 𝕄) iprop(emp))

/-- On a scalar subcore the body's label is the call's body, where the call's grid reaches. -/
theorem defs₀_scalar (c : Fin τ.nSC) :
    defs₀ (F := F) (.scScalar c) 0 () = SparseCore.onCore hcore0 (fun c => cc0__empty (fun | 0 => c | ⟨_ + 1, h⟩ => absurd h (Nat.not_lt.2 (Nat.le_add_left _ _)))
      (Memref.whole main_arg1_scs) (Memref.isWhole_whole _) (Memref.whole main_v0_scs) (Memref.isWhole_whole _)) ⟨⟩ c := rfl

/-- What a body that returns at once is handed is what it leaves, its recorded waits among them. -/
theorem leaves {thr : Thread nD τ} {O : CellTallies nD τ sig (HIx 1)} {W : Waits sig (HIx 1)} {X Y A B C : sProp 𝕄} {R : SemLoc sig × HIx 1 → Prop} :
    iprop(X ∗ Y ∗ A ∗ B ∗ C ∗ owes thr O W) ⊢ |={Set.univ}=> iprop(A ∗ B ∗ C ∗ ∃ W', ⌜∀ p ∈ W', p ∈ W ∨ p.2 = none ∨ R p⌝ ∗ owes thr O W') := by
  iintro ⟨-, -, HA, HB, HC, HO⟩
  imodintro
  isplitl [HA]; · iexact HA
  isplitl [HB]; · iexact HB
  isplitl [HC]; · iexact HC
  iexists W
  isplitr
  · ipureintro; exact fun p hp => .inl hp
  iexact HO

/-- A scalar subcore's body returns at once: what it was handed is what it leaves. -/
theorem scalarObl : (K (F := F)).ScalarObl (D (F := F)) 𝒱 (P (F := F)) v₀ 0 := by
  intro d c O W _ _ _
  simp only [show (P (F := F)).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  unfold cc0__empty
  rw [wp_pure]
  exact leaves

/-- The arrays as launched: both arguments and the call's output. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_v0 ↦{fullShare} m ((SparseCore.T d).loc main_v0)))

/-- What a device holds at launch beside its handshakes is those three arrays. -/
theorem bufs_eq (d : Dev nD) : (unscopedBufs d (fun b => m ((SparseCore.T d).loc b)) : sProp 𝕄) = FIN m d := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The handshakes' rounds, and no counter. -/
def u₀ : UH × Counters := (initOf (K (F := F)).hsCells (K (F := F)).hsToks, 1)

/-- It deals the handshakes' state, and each device and thread nothing. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (F := F)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  rw [show (bigSep Finset.univ fun _ : Dev nD => (iprop(emp) : sProp 𝕄)) = iprop(emp) from bigSep_emp_const _,
    show (bigSep Finset.univ fun thr : Thread nD τ => bigSep Finset.univ fun q : Fin 1 => (P (F := F)).x q thr) = bigSep Finset.univ fun _ => iprop(emp) from
      bigSep_congr fun _ _ => bigSep_univ_of_subsingleton (0 : Fin 1),
    show (bigSep Finset.univ fun _ : Thread nD τ => (iprop(emp) : sProp 𝕄)) = iprop(emp) from bigSep_emp_const _]
  isplitl <;> iempintro

/-- @main on a device's TensorCore: it starts the scalar subcores, waits for them, and keeps every array meanwhile. -/
theorem hmain [∀ e, Nonempty (Elt F e)] (κ : GSem nD τ sig → ℕ) (d : Dev nD) :
    iprop((K (F := F)).ctx EH (P (F := F)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  unfold main
  rw [wp_bind]
  iintro ⟨#Hctx, Hst, ⟨Hb, Hbufs, Hts, -⟩, -⟩
  iapply ((K (F := F)).wp_run (D (F := F)) 𝒱 (EH := EH) (P := P (F := F)) κ d 0) $$ [-]
  isplitr; · iexact Hctx
  isplitl [Hst]; · iexact Hst
  isplitr
  · rw [show (bigSep Finset.univ fun c : Fin ((K (F := F)).nCore 0) => (P (F := F)).st 0 d c) = iprop(emp) from bigSep_emp_const _]
    iempintro
  iintro ⟨Hst, -⟩
  rw [wp_pure]
  imodintro
  isplitl [Hst]; · iexact Hst
  isplitl [Hbufs]; · rw [← bufs_eq]; iexact Hbufs
  isplitl [Hb]; · iexact Hb
  iexact Hts

/-- Every array is as launched, and every semaphore at zero. -/
def Ends (r : PUnit × MemSt nD τ sig (Elt F)) : Prop :=
  (∀ c : Dev nD, r.2.mem ((SparseCore.T c).loc main_arg0) = m ((SparseCore.T c).loc main_arg0) ∧ r.2.mem ((SparseCore.T c).loc main_arg1) = m ((SparseCore.T c).loc main_arg1)
    ∧ r.2.mem ((SparseCore.T c).loc main_v0) = m ((SparseCore.T c).loc main_v0)) ∧ r.2.sem = fun _ => 0

/-- What the final memory holds on device `d`. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v0) = m ((SparseCore.T d).loc main_v0)

/-- An array held whole is what the memory holds, and stays held. -/
theorem agrees (s' : Phys nD τ sig (Elt F)) (ℓ : Loc nD τ sig) (f : Buf (Elt F) ℓ) :
    iprop(SI s' ∗ ℓ ↦{fullShare} f) ⊢ (iprop(⌜s'.mem.mem ℓ = f⌝ ∗ SI s' ∗ ℓ ↦{fullShare} f) : sProp 𝕄) :=
  (persistent_entails_right SI_pointsTo_agree).trans (sep_mono_left (Laws.pure_mono fun h => funext fun i => h i (Finset.mem_univ i)))

/-- What @main leaves is what the final memory holds. -/
theorem hfin (d : Dev nD) (s' : Phys nD τ sig (Elt F)) : iprop(FIN m d ∗ SI s') ⊢ (⌜fq m d s'⌝ : sProp 𝕄) := by
  iintro ⟨⟨Hx, Ha, Hr⟩, HSI⟩
  ihave H := (agrees s' _ _) $$ [HSI Hx]
  · isplitl [HSI] <;> iassumption
  icases H with ⟨%h1, HSI, -⟩
  ihave H := (agrees s' _ _) $$ [HSI Ha]
  · isplitl [HSI] <;> iassumption
  icases H with ⟨%h2, HSI, -⟩
  ihave H := (agrees s' _ _) $$ [HSI Hr]
  · isplitl [HSI] <;> iassumption
  icases H with ⟨%h3, -, -⟩
  ipureintro
  exact ⟨h1, h2, h3⟩

/-- Every run of the probe from any memory ends so. -/
theorem run_main [∀ e, Nonempty (Elt F e)] : θ_run (Cert.Probe.defs (F := F)) (Cert.Probe.threads (F := F)) ⟨m, fun _ => 0, ρ⟩ (Ends m) :=
  SparseCore.Cfg.θ_run_sc_quiescent (K := K (F := F)) (D := D (F := F)) (𝒱 := 𝒱) (EH := EH) (P := P (F := F)) (A := ∅) facts v₀
    (fun q _ => match q with | 0 => scalarObl)
    (fun q hq => match q with | 0 => nomatch hq)
    (fun q hq => match q with | 0 => nomatch hq)
    m ρ main (fun _ => iprop(emp)) (FIN m) (u₀ (F := F)) (sep_elim_left.trans hu₀) (hmain m ρ) (fq m) (hfin m) (Ends m) (fun _ h hz => ⟨h, hz⟩)

end Cert.Proof.Scalar

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Reference
public import proofs.«01_k».proof.Proof.Gen.Probe
public import proofs.«01_k».proof.Proof.Gen.ReferenceIdeal.Run
public import proofs.«01_k».proof.Proof.Run
public import proofs.«01_k».proof.Proof.Lookup
public import proofs.«01_k».proof.Proof.Scalar
public import Idealize.ShloMosaic.Adequacy
public import Idealize.ShloMosaic.Init

@[expose] public section

noncomputable section

namespace Cert.Proof

open Idealize.ShloMosaic Idealize.SL.Sem Cert.Kernel

/-- The two texts of the kernel have the same bodies: label by label and processor by processor, the same program. -/
theorem bodies_eq {F : FTy → Type} [FloatOps F] : Cert.KernelIdeal.defs₀ (F := F) = Cert.Kernel.defs₀ (F := F) := by
  funext p ℓ a
  change Fin 2 at ℓ
  cases p
  · match ℓ, a with
    | 0, _ => rfl
    | 1, _ => rfl
  · rfl
  · match ℓ, a with
    | 0, _ => rfl
    | 1, _ => rfl

/-- So have their whole body tables. -/
theorem defs_eq {F : FTy → Type} [FloatOps F] : Cert.KernelIdeal.defs (F := F) = Cert.Kernel.defs (F := F) := by
  unfold Cert.KernelIdeal.defs Cert.Kernel.defs
  rw [bodies_eq]
  rfl

/-- On bit patterns, every run of the kernel ends with its result equal to the table, its arguments unchanged and the counters
    at zero. -/
theorem run_kernel (m : (ℓ : Loc nD τ sig) → Buf (Elt Bits) ℓ) (ρ : Dev nD → PrngReg) :
    θ_run (defs (F := Bits)) (threads (F := Bits)) ⟨m, fun _ => 0, ρ⟩ (Copy.Ends (F := Bits) m) := by
  rw [← defs_eq]
  exact Copy.run_main (F := Bits) m ρ

/-- The kernel leaves its two arguments as they were and every semaphore counter at zero. -/
theorem frame_kernel : Cert.quiescent_Kernel := fun m ρ _ =>
  (θ_run defs _ _).mono (fun _ h => ⟨fun c => ⟨(h.1 c).1, (h.1 c).2.1⟩, h.2⟩) (run_kernel m ρ)

/-- The same of the kernel over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (Copy.run_main (F := Ideal) m ρ)

/-- The reference over the extended reals leaves its two arguments as they were and every semaphore counter at zero. -/
theorem frame_referenceIdeal : Cert.quiescent_ReferenceIdeal := fun m ρ _ =>
  (θ_run Cert.ReferenceIdeal.defs _ _).mono (fun _ h => ⟨fun c => (h.1 c).2, h.2⟩) (Lookup.run (F := Ideal) m ρ)

/-- The same of the reference on bit patterns. -/
theorem frame_reference : Cert.quiescent_Reference := fun m ρ _ =>
  (θ_run Cert.ReferenceIdeal.defs _ _).mono (fun _ h => ⟨fun c => (h.1 c).2, h.2⟩) (Lookup.run (F := Bits) m ρ)

/-- The probe on the scalar subcores leaves its two arguments as they were and every semaphore counter at zero. -/
theorem frame_probe : Cert.quiescent_Probe := fun m ρ _ =>
  (θ_run Cert.Probe.defs _ _).mono (fun _ h => ⟨fun c => ⟨(h.1 c).1, (h.1 c).2.1⟩, h.2⟩) (Scalar.run_main (F := Bits) m ρ)

/-- Over the extended reals, kernel and reference end with the same result: the table they were given. -/
theorem algebraic : Cert.algebraic_KernelIdeal_ReferenceIdeal := by
  intro m ρ m' ρ' _ hagree
  refine ⟨fun c => m (Copy.aLoc c), (θ_run Cert.KernelIdeal.defs _ _).mono (fun _ h c => ⟨(h.1 c).2.2, (h.1 c).1, (h.1 c).2.1⟩)
    (Copy.run_main (F := Ideal) m ρ), ?_⟩
  exact (θ_run Cert.ReferenceIdeal.defs _ _).mono (fun _ h c => ⟨(h.1 c).1.trans (hagree c).2, (h.1 c).2⟩) (Lookup.run (F := Ideal) m' ρ')

/-- On bit patterns, kernel and reference end with the same result, bit for bit. -/
theorem bitexact : Cert.bitexact_Kernel_Reference := by
  intro m ρ m' ρ' _ hagree
  refine ⟨fun c => m (Copy.aLoc c), (θ_run defs _ _).mono (fun _ h c => ⟨(h.1 c).2.2, (h.1 c).1, (h.1 c).2.1⟩)
    (run_kernel m ρ), ?_⟩
  exact (θ_run Cert.ReferenceIdeal.defs _ _).mono (fun _ h c => ⟨(h.1 c).1.trans (hagree c).2, (h.1 c).2⟩) (Lookup.run (F := Bits) m' ρ')

theorem claim : Cert.Claim := ⟨Cert.Kernel.Gen.facts, Cert.KernelIdeal.Gen.facts, Cert.ReferenceIdeal.Gen.facts, Cert.Reference.Gen.facts,
  Cert.Probe.Gen.facts, frame_kernel, frame_kernelIdeal, frame_referenceIdeal, frame_reference, frame_probe, trivial, algebraic, bitexact⟩

end Cert.Proof

end
